-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tags_in_table [hPre_tags_in_table : Cert.Pre_tags_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_tags_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tags_in_table [hPre_tags_in_table : Cert.Pre_tags_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tags_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tags_in_table [hKernelIdeal : Cert.KernelIdeal.Facts] [hPre_tags_in_table : Cert.Pre_tags_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tags_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tags_in_table [hReferenceIdeal : Cert.ReferenceIdeal.Facts] [hPre_tags_in_table : Cert.Pre_tags_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tags_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_tags_in_table [hKernelIdeal : Cert.KernelIdeal.Facts] [hReferenceIdeal : Cert.ReferenceIdeal.Facts] [hPre_tags_in_table : Cert.Pre_tags_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tags_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tags_in_table : Cert.Pre_tags_in_table.Facts),
    quiescent_Kernel (hKernel := hKernel)
    ∧ quiescent_KernelIdeal (hKernelIdeal := hKernelIdeal)
    ∧ quiescent_KernelIdeal_pre_tags_in_table (hKernelIdeal := hKernelIdeal) (hPre_tags_in_table := hPre_tags_in_table)
    ∧ quiescent_ReferenceIdeal (hReferenceIdeal := hReferenceIdeal)
    ∧ quiescent_ReferenceIdeal_pre_tags_in_table (hReferenceIdeal := hReferenceIdeal) (hPre_tags_in_table := hPre_tags_in_table)
    ∧ preserves_Kernel_KernelIdeal
    ∧ algebraic_KernelIdeal_ReferenceIdeal_pre_tags_in_table (hKernelIdeal := hKernelIdeal) (hReferenceIdeal := hReferenceIdeal) (hPre_tags_in_table := hPre_tags_in_table)
-- ==== Pre_tags_in_table.lean ====
abbrev S4096x200x64 : Shape := ⟨3, ![4096, 200, 64]⟩
abbrev S4096x200 : Shape := ⟨2, ![4096, 200]⟩
abbrev S201x64 : Shape := ⟨2, ![201, 64]⟩
abbrev S64 : Shape := ⟨1, ![64]⟩
abbrev S_ : Shape := ⟨0, ![]⟩

class Facts : Prop where
  bcast_S_S4096x200 : S_.BroadcastsInDim S4096x200 (![] : Fin 0 → Fin S4096x200.rank)

variable [Facts]

def fn {F : FTy → Type} [FloatOps F] (main_arg0 : FVec F S4096x200x64 .f32) (main_arg1 : IVec S4096x200 32) (main_arg2 : FVec F S201x64 .f32) (main_arg3 : FVec F S64 .f32) (main_arg4 : FVec F S64 .f32) : IVec S4096x200 1 :=
  let main_c : IVec S_ 32 := constantI S_ 32 0#32
  let main_v0 : IVec S4096x200 32 := broadcastInDim S4096x200 ![] bcast_S_S4096x200 main_c
  let main_v1 : IVec S4096x200 1 := cmpi .sge main_arg1 main_v0
  let main_c_0 : IVec S_ 32 := constantI S_ 32 201#32
  let main_v2 : IVec S4096x200 32 := broadcastInDim S4096x200 ![] bcast_S_S4096x200 main_c_0
  let main_v3 : IVec S4096x200 1 := cmpi .slt main_arg1 main_v2
  let main_v4 : IVec S4096x200 1 := andi main_v1 main_v3
  main_v4
-- ==== Kernel.lean ====
abbrev S4096x200x64 : Shape := ⟨3, ![4096, 200, 64]⟩
abbrev S4096x200 : Shape := ⟨2, ![4096, 200]⟩
abbrev S201x64 : Shape := ⟨2, ![201, 64]⟩
abbrev S64 : Shape := ⟨1, ![64]⟩
abbrev S200x64x4096 : Shape := ⟨3, ![200, 64, 4096]⟩
abbrev S200x4096 : Shape := ⟨2, ![200, 4096]⟩
abbrev S200x1x4096 : Shape := ⟨3, ![200, 1, 4096]⟩
abbrev S_ : Shape := ⟨0, ![]⟩
abbrev S512x64 : Shape := ⟨2, ![512, 64]⟩
abbrev S64x512 : Shape := ⟨2, ![64, 512]⟩
abbrev S64x128 : Shape := ⟨2, ![64, 128]⟩
abbrev S64x1 : Shape := ⟨2, ![64, 1]⟩
abbrev S4x64x4096 : Shape := ⟨3, ![4, 64, 4096]⟩
abbrev S4x1x4096 : Shape := ⟨3, ![4, 1, 4096]⟩
abbrev S1x1x4096 : Shape := ⟨3, ![1, 1, 4096]⟩
abbrev S1x4096 : Shape := ⟨2, ![1, 4096]⟩
abbrev S1x128 : Shape := ⟨2, ![1, 128]⟩
abbrev S64x128x1 : Shape := ⟨3, ![64, 128, 1]⟩
abbrev S1x64x128 : Shape := ⟨3, ![1, 64, 128]⟩
abbrev S128 : Shape := ⟨1, ![128]⟩

abbrev nBuf : Space → Nat
  | .hbm => 22
  | .vmem => 12
  | .smem => 0
  | _ => 0

abbrev bufTy : (tb : Table) → Fin (tcTables nBuf tb) → BufTy
  | .hbm, ⟨0, _⟩ => ⟨S4096x200x64, .f32⟩
  | .hbm, ⟨1, _⟩ => ⟨S4096x200, .i32⟩
  | .hbm, ⟨2, _⟩ => ⟨S201x64, .f32⟩
  | .hbm, ⟨3, _⟩ => ⟨S64, .f32⟩
  | .hbm, ⟨4, _⟩ => ⟨S64, .f32⟩
  | .hbm, ⟨5, _⟩ => ⟨S200x64x4096, .f32⟩
  | .hbm, ⟨6, _⟩ => ⟨S200x4096, .i32⟩
  | .hbm, ⟨7, _⟩ => ⟨S200x1x4096, .i32⟩
  | .hbm, ⟨8, _⟩ => ⟨S_, .i32⟩
  | .hbm, ⟨9, _⟩ => ⟨S_, .f32⟩
  | .hbm, ⟨10, _⟩ => ⟨S512x64, .f32⟩
  | .hbm, ⟨11, _⟩ => ⟨S64x512, .f32⟩
  | .hbm, ⟨12, _⟩ => ⟨S64x512, .bf16⟩
  | .hbm, ⟨13, _⟩ => ⟨S64x512, .f32⟩
  | .hbm, ⟨14, _⟩ => ⟨S64x128, .f32⟩
  | .hbm, ⟨15, _⟩ => ⟨S64x128, .f32⟩
  | .hbm, ⟨16, _⟩ => ⟨S64x128, .f32⟩
  | .hbm, ⟨17, _⟩ => ⟨S64x128, .f32⟩
  | .hbm, ⟨18, _⟩ => ⟨S64x1, .f32⟩
  | .hbm, ⟨19, _⟩ => ⟨S64x1, .f32⟩
  | .hbm, ⟨20, _⟩ => ⟨S200x64x4096, .f32⟩
  | .hbm, ⟨21, _⟩ => ⟨S4096x200x64, .f32⟩
  | .local _ .vmem, ⟨0, _⟩ => ⟨S4x64x4096, .f32⟩
  | .local _ .vmem, ⟨1, _⟩ => ⟨S4x64x4096, .f32⟩
  | .local _ .vmem, ⟨2, _⟩ => ⟨S4x1x4096, .i32⟩
  | .local _ .vmem, ⟨3, _⟩ => ⟨S4x1x4096, .i32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x1, .f32⟩
  | .local _ .vmem, ⟨9, _⟩ => ⟨S64x1, .f32⟩
  | .local _ .vmem, ⟨10, _⟩ => ⟨S4x64x4096, .f32⟩
  | .local _ .vmem, ⟨11, _⟩ => ⟨S4x64x4096, .f32⟩
  | _, _ => ⟨S4096x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![50, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4x64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4096x200x64 : Shape := ⟨3, ![4096, 200, 64]⟩
abbrev S4096x200 : Shape := ⟨2, ![4096, 200]⟩
abbrev S201x64 : Shape := ⟨2, ![201, 64]⟩
abbrev S64 : Shape := ⟨1, ![64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S1x1x64 : Shape := ⟨3, ![1, 1, 64]⟩

abbrev nBuf : Space → Nat
  | .hbm => 58
  | .vmem => 0
  | .smem => 0
  | _ => 0

abbrev bufTy : (tb : Table) → Fin (tcTables nBuf tb) → BufTy
  | .hbm, ⟨0, _⟩ => ⟨S4096x200x64, .f32⟩
  | .hbm, ⟨1, _⟩ => ⟨S4096x200, .i32⟩
  | .hbm, ⟨2, _⟩ => ⟨S201x64, .f32⟩
  | .hbm, ⟨3, _⟩ => ⟨S64, .f32⟩
  | .hbm, ⟨4, _⟩ => ⟨S64, .f32⟩
  | .hbm, ⟨5, _⟩ => ⟨S_, .i32⟩
  | .hbm, ⟨6, _⟩ => ⟨S4096x200, .i32⟩
  | .hbm, ⟨7, _⟩ => ⟨S4096x200, .i1⟩
  | .hbm, ⟨8, _⟩ => ⟨S_, .i32⟩
  | .hbm, ⟨9, _⟩ => ⟨S4096x200, .i32⟩
  | .hbm, ⟨10, _⟩ => ⟨S4096x200, .i32⟩
  | .hbm, ⟨11, _⟩ => ⟨S4096x200, .i32⟩
  | .hbm, ⟨12, _⟩ => ⟨S4096x200x1, .i32⟩
  | .hbm, ⟨13, _⟩ => ⟨S1, .i32⟩
  | .hbm, ⟨14, _⟩ => ⟨S_, .i32⟩
  | .hbm, ⟨15, _⟩ => ⟨S4096x200x1, .i32⟩
  | .hbm, ⟨16, _⟩ => ⟨S4096x200x1, .i1⟩
  | .hbm, ⟨17, _⟩ => ⟨S1x1x1, .i32⟩
  | .hbm, ⟨18, _⟩ => ⟨S4096x200x1, .i32⟩
  | .hbm, ⟨19, _⟩ => ⟨S4096x200x1, .i1⟩
  | .hbm, ⟨20, _⟩ => ⟨S4096x200x1, .i1⟩
  | .hbm, ⟨21, _⟩ => ⟨S_, .i1⟩
  | .hbm, ⟨22, _⟩ => ⟨S4096x200, .i1⟩
  | .hbm, ⟨23, _⟩ => ⟨S4096x200x64, .f32⟩
  | .hbm, ⟨24, _⟩ => ⟨S4096x200x64, .i1⟩
  | .hbm, ⟨25, _⟩ => ⟨S_, .f32⟩
  | .hbm, ⟨26, _⟩ => ⟨S4096x200x64, .f32⟩
  | .hbm, ⟨27, _⟩ => ⟨S4096x200x64, .f32⟩
  | .hbm, ⟨28, _⟩ => ⟨S4096x200x64, .f32⟩
  | .hbm, ⟨29, _⟩ => ⟨S_, .f32⟩
  | .hbm, ⟨30, _⟩ => ⟨S4096x200, .f32⟩
  | .hbm, ⟨31, _⟩ => ⟨S4096x200x1, .f32⟩
  | .hbm, ⟨32, _⟩ => ⟨S_, .f32⟩
  | .hbm, ⟨33, _⟩ => ⟨S4096x200x1, .f32⟩
  | .hbm, ⟨34, _⟩ => ⟨S4096x200x1, .f32⟩
  | .hbm, ⟨35, _⟩ => ⟨S4096x200x64, .f32⟩
  | .hbm, ⟨36, _⟩ => ⟨S4096x200x64, .f32⟩
  | .hbm, ⟨37, _⟩ => ⟨S4096x200x64, .f32⟩
  | .hbm, ⟨38, _⟩ => ⟨S_, .f32⟩
  | .hbm, ⟨39, _⟩ => ⟨S4096x200, .f32⟩
  | .hbm, ⟨40, _⟩ => ⟨S4096x200x1, .f32⟩
  | .hbm, ⟨41, _⟩ => ⟨S_, .f32⟩
  | .hbm, ⟨42, _⟩ => ⟨S4096x200x1, .f32⟩
  | .hbm, ⟨43, _⟩ => ⟨S4096x200x1, .f32⟩
  | .hbm, ⟨44, _⟩ => ⟨S4096x200x64, .f32⟩
  | .hbm, ⟨45, _⟩ => ⟨S4096x200x64, .f32⟩
  | .hbm, ⟨46, _⟩ => ⟨S_, .f32⟩
  | .hbm, ⟨47, _⟩ => ⟨S4096x200x1, .f32⟩
  | .hbm, ⟨48, _⟩ => ⟨S4096x200x1, .f32⟩
  | .hbm, ⟨49, _⟩ => ⟨S4096x200x1, .f32⟩
  | .hbm, ⟨50, _⟩ => ⟨S4096x200x64, .f32⟩
  | .hbm, ⟨51, _⟩ => ⟨S4096x200x64, .f32⟩
  | .hbm, ⟨52, _⟩ => ⟨S1x1x64, .f32⟩
  | .hbm, ⟨53, _⟩ => ⟨S4096x200x64, .f32⟩
  | .hbm, ⟨54, _⟩ => ⟨S4096x200x64, .f32⟩
  | .hbm, ⟨55, _⟩ => ⟨S1x1x64, .f32⟩
  | .hbm, ⟨56, _⟩ => ⟨S4096x200x64, .f32⟩
  | .hbm, ⟨57, _⟩ => ⟨S4096x200x64, .f32⟩
  | _, _ => ⟨S4096x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_cst : Ref sig .tc := ⟨.hbm, 29, rfl⟩
abbrev main_v2 : Ref sig .tc := ⟨.hbm, 30, rfl⟩
abbrev main_v3 : Ref sig .tc := ⟨.hbm, 31, rfl⟩
abbrev main_cst_0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_3 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩

abbrev nD : Nat := 1
abbrev τ : Topo := Topo.v7x

variable {F : FTy → Type} [FloatOps F]
-- ==== Proof.LayerNorm.lean ====
/- The normalisation of one row of 64 features over the extended reals: as the kernel computes it, with the
   reciprocal root of the variance, and as the reference does, dividing by the root. The two agree at every row,
   infinite entries included, because the variance plus epsilon is always positive. -/
module

public import Idealize.ShloMosaic.PureOps.Ideal
public import Idealize.ShloMosaic.PureOps.Ideal.Laws

@[expose] public section

noncomputable section

namespace Cert.LayerNorm

open Idealize.ShloMosaic

/-- The number of features, as the programs write it. -/
def count : EReal := Ideal.ofBits .f32 0x42800000#32

/-- The epsilon added to the variance, as the programs write it. -/
def eps : EReal := Ideal.ofBits .f32 0x2B8CBCCC#32

/-- The mean of a row. -/
def mean (h : Fin 64 → EReal) : EReal := Ideal.div (∑ k, h k) count

/-- A row's entry with the mean taken off. -/
def dev (h : Fin 64 → EReal) (f : Fin 64) : EReal := h f - mean h

/-- The variance of a row, with epsilon added. -/
def spread (h : Fin 64 → EReal) : EReal := mean (fun k => dev h k * dev h k) + eps

/-- A row's normalised entry, scaled and shifted: multiplied by the reciprocal root, as the kernel does. -/
def norm (h : Fin 64 → EReal) (g b : EReal) (f : Fin 64) : EReal :=
  dev h f * Ideal.rsqrt (spread h) * g + b

theorem count_eq : count = ((64 : ℝ) : EReal) := by
  simp [count, Ideal.ofBits, Ideal.ieee, -EReal.coe_mul]; norm_num

theorem eps_pos : 0 < eps := by
  have h : eps = ((9223372 * (2 : ℝ) ^ (-63 : Int) : ℝ) : EReal) := by
    simp [eps, Ideal.ofBits, Ideal.ieee, -EReal.coe_mul]
  rw [h]
  exact_mod_cast (by positivity : (0 : ℝ) < 9223372 * (2 : ℝ) ^ (-63 : Int))

/-- Over the extended reals too a square is not negative. -/
theorem sq_nonneg (x : EReal) : 0 ≤ x * x := by
  rcases le_total 0 x with h | h
  · exact mul_nonneg h h
  · have h' : 0 ≤ -x := by simpa using EReal.neg_le_neg_iff.mpr h
    simpa using mul_nonneg h' h'

theorem mean_nonneg {h : Fin 64 → EReal} (hh : ∀ k, 0 ≤ h k) : 0 ≤ mean h := by
  have h64 : ((64 : ℝ) : EReal) ≠ 0 := by exact_mod_cast (by norm_num : (64 : ℝ) ≠ 0)
  rw [mean, count_eq, Ideal.div, if_neg h64]
  refine mul_nonneg (Finset.sum_nonneg fun k _ => hh k) ?_
  rw [← EReal.coe_inv]
  exact_mod_cast (by norm_num : (0 : ℝ) ≤ 64⁻¹)

/-- The variance with epsilon is positive, whatever the row. -/
theorem spread_pos (h : Fin 64 → EReal) : 0 < spread h :=
  lt_of_lt_of_le eps_pos (le_add_of_nonneg_left (mean_nonneg fun _ => sq_nonneg _))

/-- Dividing by the root of a positive number is multiplying by its reciprocal root. -/
theorem div_sqrt (x v : EReal) (hv : 0 < v) : Ideal.div x (Ideal.sqrt v) = x * Ideal.rsqrt v := by
  induction v using EReal.rec with
  | bot => exact absurd hv (by simp)
  | top => simp [Ideal.div]
  | coe r =>
    have hr : 0 < r := by exact_mod_cast hv
    have hs : Real.sqrt r ≠ 0 := (Real.sqrt_pos.mpr hr).ne'
    have hs' : ((Real.sqrt r : ℝ) : EReal) ≠ 0 := by exact_mod_cast hs
    rw [Ideal.sqrt_coe, Ideal.rsqrt_coe, if_neg hr.not_gt, if_neg hr.not_gt, if_neg hr.ne', Ideal.div, if_neg hs',
      EReal.coe_inv]

/-- The reference's normalised entry is the kernel's. -/
theorem norm_eq_div (h : Fin 64 → EReal) (g b : EReal) (f : Fin 64) :
    Ideal.div (dev h f) (Ideal.sqrt (spread h)) * g + b = norm h g b f := by
  rw [div_sqrt _ _ (spread_pos h), norm]

end Cert.LayerNorm

end
-- ==== Proof.Expected.lean ====
/- The result both programs should have, element by element. -/
module

public import proofs.«01_k».proof.Proof.LayerNorm
public import Idealize.ShloMosaic.Lib.Pointwise

@[expose] public section

noncomputable section

namespace Cert.Expected

open Idealize.ShloMosaic

/-- The table's row of a tag (a tag in the table is its own remainder). -/
def rowOf (w : BitVec 32) : Fin 201 := ⟨w.toNat % 201, Nat.mod_lt _ (by decide)⟩

theorem rowOf_val {w : BitVec 32} (h : w.toNat < 201) : (rowOf w).val = w.toNat := Nat.mod_eq_of_lt h

theorem ofNat_rowOf {w : BitVec 32} (h : w.toNat < 201) : w = BitVec.ofNat 32 (rowOf w).val := by
  rw [rowOf_val h, BitVec.ofNat_toNat, BitVec.setWidth_eq]

/-- Batch `b`, position `t`, feature `f`: the row of `x` and the table's row of the tag added, normalised, scaled and
    shifted. -/
def value (x : (⟨3, ![4096, 200, 64]⟩ : Shape).Idx → EReal) (tags : (⟨2, ![4096, 200]⟩ : Shape).Idx → BitVec 32)
    (emb : (⟨2, ![201, 64]⟩ : Shape).Idx → EReal) (g s : (⟨1, ![64]⟩ : Shape).Idx → EReal)
    (b : Fin 4096) (t : Fin 200) (f : Fin 64) : EReal :=
  LayerNorm.norm (fun k => x (ix3 b t k) + emb (ix2 (rowOf (tags (ix2 b t))) k)) (g (ix1 f)) (s (ix1 f)) f

end Cert.Expected

end
-- ==== Proof.Reference.lean ====
/- What the reference computes, read at an element over the extended reals: the row of the table the tag names is
   added to the row of `x`, and the sum is normalised by dividing by the root of its variance. -/
module

public import proofs.«01_k».proof.Proof.Gen.ReferenceIdeal.Run
public import proofs.«01_k».proof.Proof.LayerNorm
public import Idealize.ShloMosaic.Lib.Pointwise

@[expose] public section

set_option maxRecDepth 16384

noncomputable section

namespace Cert.ReferenceIdeal.Entry

open Idealize.ShloMosaic Idealize.SL.Sem Cert.ReferenceIdeal Cert.ReferenceIdeal.Gen

/-! ## The reference's operations, named -/

/-- The tags as row numbers, counted from the end where negative. -/
def rows (tags : IVec S4096x200 32) : IVec S4096x200x1 32 :=
  broadcastInDim S4096x200x1 ![0, 1] bcast_S4096x200_S4096x200x1_0_1
    (select (cmpi .slt tags (broadcastInDim S4096x200 ![] bcast_S_S4096x200 (constantI S_ 32 0#32)))
      (addi tags (broadcastInDim S4096x200 ![] bcast_S_S4096x200 (constantI S_ 32 201#32))) tags)

/-- Whether a row number lies in the table. -/
def inTable (tags : IVec S4096x200 32) : IVec S4096x200x1 1 :=
  andi (cmpi .sge (rows tags) (broadcastInDim S4096x200x1 ![] bcast_S_S4096x200x1 (constantI S_ 32 0#32)))
    (cmpi .sle (rows tags) (broadcastInDim S4096x200x1 ![0, 1, 2] bcast_S1x1x1_S4096x200x1_0_1_2
      (broadcastInDim S1x1x1 ![2] bcast_S1_S1x1x1_2 (constantI S1 32 200#32))))

/-- The table's rows at the tags, with a filler where a row number lies outside it. -/
def taken (emb : FVec Ideal S201x64 .f32) (tags : IVec S4096x200 32) : FVec Ideal S4096x200x64 .f32 :=
  select (broadcastInDim S4096x200x64 ![0, 1] bcast_S4096x200_S4096x200x64_0_1
      (Host.reduce IntOp.andi (inTable tags) (constantI S_ 1 1#1) reducesTo_S4096x200x1_S4096x200_d2 h_S_))
    (Host.gather gather_S201x64_S4096x200x1_S4096x200x64_2_0_n_n_0_2_164 emb (rows tags))
    (broadcastInDim S4096x200x64 ![] bcast_S_S4096x200x64 (constant S_ .f32 0x7FC00000#32))

/-- The mean over the features. -/
def rowMean (v : FVec Ideal S4096x200x64 .f32) : FVec Ideal S4096x200x1 .f32 :=
  Host.divf (broadcastInDim S4096x200x1 ![0, 1] bcast_S4096x200_S4096x200x1_0_1
      (Host.reduceAdd v (constant S_ .f32 0x00000000#32) reducesTo_S4096x200x64_S4096x200_d2 h_S_))
    (broadcastInDim S4096x200x1 ![] bcast_S_S4096x200x1 (constant S_ .f32 0x42800000#32))

/-- The features with their mean taken off. -/
def centred (v : FVec Ideal S4096x200x64 .f32) : FVec Ideal S4096x200x64 .f32 :=
  subf v (broadcastInDim S4096x200x64 ![0, 1, 2] bcast_S4096x200x1_S4096x200x64_0_1_2 (rowMean v))

/-- One number per feature, at every row. -/
def perFeature (g : FVec Ideal S64 .f32) : FVec Ideal S4096x200x64 .f32 :=
  broadcastInDim S4096x200x64 ![0, 1, 2] bcast_S1x1x64_S4096x200x64_0_1_2
    (broadcastInDim S1x1x64 ![2] bcast_S64_S1x1x64_2 g)

/-- The normalisation of every row. -/
def normalised (g b : FVec Ideal S64 .f32) (v : FVec Ideal S4096x200x64 .f32) : FVec Ideal S4096x200x64 .f32 :=
  addf (mulf (Host.divf (centred v) (broadcastInDim S4096x200x64 ![0, 1, 2] bcast_S4096x200x1_S4096x200x64_0_1_2
      (Host.sqrt (addf (rowMean (mulf (centred v) (centred v)))
        (broadcastInDim S4096x200x1 ![] bcast_S_S4096x200x1 (constant S_ .f32 0x2B8CBCCC#32))))))
    (perFeature g)) (perFeature b)

/-- The reference's result is these, composed. -/
theorem result_eq (m : (ℓ : Loc nD τ sig) → Buf (Elt Ideal) ℓ) (c : Dev nD) :
    Value.res_out0 m c = normalised (m ((c.tc : Thread nD τ).loc main_arg3)) (m ((c.tc : Thread nD τ).loc main_arg4))
      (addf (m ((c.tc : Thread nD τ).loc main_arg0))
        (taken (m ((c.tc : Thread nD τ).loc main_arg2)) (m ((c.tc : Thread nD τ).loc main_arg1)))) := rfl

/-! ## The row a tag takes -/

theorem rows_apply (tags : IVec S4096x200 32) (b : Fin 4096) (t : Fin 200) (n : Fin 201)
    (h : tags (ix2 b t) = BitVec.ofNat 32 n.val) : rows tags (ix3 b t 0) = BitVec.ofNat 32 n.val := by
  pointwise [rows]
  rw [h]
  clear h
  revert n; decide +kernel

theorem inTable_apply (tags : IVec S4096x200 32) (b : Fin 4096) (t : Fin 200) (n : Fin 201)
    (h : tags (ix2 b t) = BitVec.ofNat 32 n.val) : inTable tags (ix3 b t 0) = 1#1 := by
  pointwise [inTable]
  rw [rows_apply tags b t n h]
  clear h
  revert n; decide +kernel

/-- A gather of whole rows, read at an element: the row whose number the indices hold. -/
theorem gather_apply (emb : FVec Ideal S201x64 .f32) (idx : IVec S4096x200x1 32) (b : Fin 4096) (t : Fin 200) (f : Fin 64)
    (n : Fin 201) (h : idx (ix3 b t 0) = BitVec.ofNat 32 n.val) :
    Host.gather gather_S201x64_S4096x200x1_S4096x200x64_2_0_n_n_0_2_164 emb idx (ix3 b t f) = emb (ix2 n f) := by
  unfold Host.gather
  refine congrArg emb (funext fun a => Fin.ext ?_)
  have hn : min (BitVec.ofNat 32 n.val).toInt.toNat 200 = n.val := by clear h; revert n; decide +kernel
  fin_cases a
  · have e : gather_S201x64_S4096x200x1_S4096x200x64_2_0_n_n_0_2_164.siIdx (ix3 b t f) ⟨0, by decide⟩ = ix3 b t 0 := by
      funext k
      fin_cases k <;> rfl
    show min (idx (gather_S201x64_S4096x200x1_S4096x200x64_2_0_n_n_0_2_164.siIdx (ix3 b t f) ⟨0, _⟩)).toInt.toNat 200
      + 0 + 0 = n.val
    rw [e, h, hn]
    rfl
  · show 0 + 0 + f.val = f.val
    omega

theorem taken_apply (emb : FVec Ideal S201x64 .f32) (tags : IVec S4096x200 32) (b : Fin 4096) (t : Fin 200) (f : Fin 64)
    (n : Fin 201) (h : tags (ix2 b t) = BitVec.ofNat 32 n.val) : taken emb tags (ix3 b t f) = emb (ix2 n f) := by
  pointwise [taken]
  rw [gather_apply emb _ b t f n (rows_apply tags b t n h), Finset.univ_unique, Finset.fold_singleton]
  exact congrArg (fun w => Scalar.select (IntOp.andi w 1#1) _ _) (inTable_apply tags b t n h)

/-! ## The normalised row -/

theorem rowMean_apply (v : FVec Ideal S4096x200x64 .f32) (b : Fin 4096) (t : Fin 200) :
    rowMean v (ix3 b t 0) = LayerNorm.mean fun k => v (ix3 b t k) := by
  pointwise [rowMean]
  rfl

theorem centred_apply (v : FVec Ideal S4096x200x64 .f32) (b : Fin 4096) (t : Fin 200) (f : Fin 64) :
    centred v (ix3 b t f) = LayerNorm.dev (fun k => v (ix3 b t k)) f := by
  pointwise [centred]
  rw [rowMean_apply]
  rfl

theorem normalised_apply (g s : FVec Ideal S64 .f32) (v : FVec Ideal S4096x200x64 .f32) (b : Fin 4096) (t : Fin 200)
    (f : Fin 64) : normalised g s v (ix3 b t f) = LayerNorm.norm (fun k => v (ix3 b t k)) (g (ix1 f)) (s (ix1 f)) f := by
  rw [← LayerNorm.norm_eq_div]
  pointwise [normalised, perFeature]
  rw [rowMean_apply]
  pointwise
  simp only [centred_apply]
  rfl

end Cert.ReferenceIdeal.Entry

end
-- ==== Proof.Chunk.lean ====
/- What the kernel's body stores, named once for all its 128 chunks.

   The body walks the 8 positions of its block and, in each, the 32 chunks of 128 batch lanes. Every chunk does
   the same thing: look the lane's tag up in the four tables of 128 rows, keep the one entry the tag names, add
   it to the chunk of `x`, and normalise over the 64 features. `chunk` is that computation, with the place of the
   chunk's lanes in the row of tags as a parameter; `stored` is the chunk numbered `n`, at position `n / 32` and
   lanes `128 * (n % 32)` onwards; `pieces` is the list of the stores, newest first. -/
module

public import proofs.«01_k».proof.Proof.Gen.KernelIdeal
public import Idealize.ShloMosaic.Lib.Pipeline.FrameBody

@[expose] public section

noncomputable section

namespace Cert.KernelIdeal.Chunk

open Idealize.ShloMosaic Idealize.SL.Sem Cert.KernelIdeal Cert.KernelIdeal.Gen

variable {F : FTy → Type} [FloatOps F]

/-! ## The shapes' side conditions -/

theorem lanes_slice {o : ℕ} (h : o + 128 ≤ 4096) : S1x4096.Slices ![0, o] S1x128 :=
  ⟨rfl, Fin.forall_fin_two.mpr ⟨Nat.le_refl 1, h⟩⟩

theorem chunk_inb {n : ℕ} (h : n < 128) :
    ∀ a, (![n / 32, 0, 128 * (n % 32)] : Fin 3 → ℕ) a + S1x64x128.size a ≤ S4x64x4096.size a := by
  intro a
  match a with
  | 0 => show n / 32 + 1 ≤ 4; omega
  | 1 => show 0 + 64 ≤ 64; omega
  | 2 => show 128 * (n % 32) + 128 ≤ 4096; omega

theorem row_inb {n : ℕ} (h : n < 128) :
    ∀ a, (![n / 32, 0, 0] : Fin 3 → ℕ) a + S1x1x4096.size a ≤ S4x1x4096.size a := by
  intro a
  match a with
  | 0 => show n / 32 + 1 ≤ 4; omega
  | 1 => show 0 + 1 ≤ 1; omega
  | 2 => show 0 + 4096 ≤ 4096; omega

theorem table_inb : ∀ a, (![0, 0] : Fin 2 → ℕ) a + S64x128.size a ≤ S64x128.size a := by decide

theorem column_inb : ∀ a, (![0, 0] : Fin 2 → ℕ) a + S64x1.size a ≤ S64x1.size a := by decide

/-! ## One chunk -/

/-- A chunk's 128 lanes of a row of words. -/
def lanes (o : ℕ) (h : o + 128 ≤ 4096) (row : IVec S1x4096 32) : IVec S1x128 32 :=
  extractStridedSlice S1x128 ![0, o] row (lanes_slice h)

/-- The lanes' low seven bits, the same for each of the 64 features: the row of the table each lane reads. -/
def low (o : ℕ) (h : o + 128 ≤ 4096) (row : IVec S1x4096 32) : IVec S64x128 32 :=
  broadcastTo S64x128 (shapeCast S1x128 (lanes o h (andi row (broadcast S1x4096 127#32))) shapeCasts_S1x128_S1x128)
    broadcasts_S1x128_S64x128

/-- One table read at the lanes' rows (a negative row, which none is, would count from the table's end). -/
def lookup (tab : FVec F S64x128 .f32) (lo : IVec S64x128 32) : FVec F S64x128 .f32 :=
  dynamicGather 1 tab (shapeCast S64x128 (shapeCast S64x128x1
    (select (cmpi .slt lo (broadcast S64x128 0#32)) (addi lo (broadcast S64x128 128#32)) lo)
    shapeCasts_S64x128_S64x128x1) shapeCasts_S64x128x1_S64x128)

/-- Which of a chunk's lanes hold the word zero, the same for each of the 64 features. -/
def isZero (o : ℕ) (h : o + 128 ≤ 4096) (row : IVec S1x4096 32) : IVec S64x128 1 :=
  broadcastTo S64x128 (shapeCast S1x128 (cmpi .eq (lanes o h row) (broadcast S1x128 0#32)) shapeCasts_S1x128_S1x128)
    broadcasts_S1x128_S64x128

/-- The entries the lanes' tags name: of the four tables, bit 8 of the tag picks the first or the second two and
    bit 7 one of the two. -/
def entry (t0 t1 t2 t3 : FVec F S64x128 .f32) (o : ℕ) (h : o + 128 ≤ 4096) (row : IVec S1x4096 32) :
    FVec F S64x128 .f32 :=
  select (isZero o h (shrsi (andi row (broadcast S1x4096 128#32)) (broadcast S1x4096 3#32)))
    (select (isZero o h (shrsi row (broadcast S1x4096 8#32))) (lookup t0 (low o h row)) (lookup t2 (low o h row)))
    (select (isZero o h (shrsi row (broadcast S1x4096 8#32))) (lookup t1 (low o h row)) (lookup t3 (low o h row)))

/-- The mean over the 64 features of each lane. -/
def mean (v : FVec F S64x128 .f32) : FVec F S1x128 .f32 :=
  divf (shapeCast S1x128 (multiReduction .add [0] S128 v 0x00000000#32 reduces_S64x128_S128 (.inl rfl) rfl)
    shapeCasts_S128_S1x128) (broadcast S1x128 (Scalar.ofBits .f32 0x42800000#32))

/-- Each lane's features with their mean taken off. -/
def centred (v : FVec F S64x128 .f32) : FVec F S64x128 .f32 :=
  subf v (broadcastTo S64x128 (mean v) broadcasts_S1x128_S64x128)

/-- The normalisation over the 64 features: centred, scaled by the reciprocal root of the variance, then the
    features' own scale and shift. -/
def normalise (g b : FVec F S64x1 .f32) (v : FVec F S64x128 .f32) : FVec F S64x128 .f32 :=
  addf (mulf (mulf (centred v) (broadcastTo S64x128
      (rsqrt (addf (mean (mulf (centred v) (centred v))) (broadcast S1x128 (Scalar.ofBits .f32 0x2B8CBCCC#32))))
      broadcasts_S1x128_S64x128))
    (broadcastTo S64x128 g broadcasts_S64x1_S64x128)) (broadcastTo S64x128 b broadcasts_S64x1_S64x128)

/-- What one chunk stores. -/
def chunk (t0 t1 t2 t3 : FVec F S64x128 .f32) (g b : FVec F S64x1 .f32) (o : ℕ) (h : o + 128 ≤ 4096)
    (row : IVec S1x4096 32) (xs : FVec F S1x64x128 .f32) : FVec F S1x64x128 .f32 :=
  shapeCast S1x64x128 (normalise g b
    (addf (shapeCast S64x128 xs shapeCasts_S1x64x128_S64x128) (entry t0 t1 t2 t3 o h row)))
    shapeCasts_S64x128_S1x64x128

/-! ## The chunks of a block -/

/-- The place of chunk `n`: position `n / 32`, every feature, the 128 lanes from `128 * (n % 32)`. -/
abbrev place (n : ℕ) (h : n < 128) : Rect S4x64x4096 :=
  Rect.unit (s := S4x64x4096) ![n / 32, 0, 128 * (n % 32)] S1x64x128.size (chunk_inb h)

/-- What chunk `n` stores, of the input windows' blocks. -/
def stored (x0 : Vec F S4x64x4096 .f32) (x1 : Vec F S4x1x4096 .i32) (x2 x3 x4 x5 : Vec F S64x128 .f32)
    (x6 x7 : Vec F S64x1 .f32) (n : ℕ) (h : n < 128) : FVec F S1x64x128 .f32 :=
  chunk
    (shapeCast S64x128 (View.ld x2 (Rect.unit (s := S64x128) ![0, 0] S64x128.size table_inb)) shapeCasts_S64x128_S64x128)
    (shapeCast S64x128 (View.ld x3 (Rect.unit (s := S64x128) ![0, 0] S64x128.size table_inb)) shapeCasts_S64x128_S64x128)
    (shapeCast S64x128 (View.ld x4 (Rect.unit (s := S64x128) ![0, 0] S64x128.size table_inb)) shapeCasts_S64x128_S64x128)
    (shapeCast S64x128 (View.ld x5 (Rect.unit (s := S64x128) ![0, 0] S64x128.size table_inb)) shapeCasts_S64x128_S64x128)
    (shapeCast S64x1 (View.ld x6 (Rect.unit (s := S64x1) ![0, 0] S64x1.size column_inb)) shapeCasts_S64x1_S64x1)
    (shapeCast S64x1 (View.ld x7 (Rect.unit (s := S64x1) ![0, 0] S64x1.size column_inb)) shapeCasts_S64x1_S64x1)
    (128 * (n % 32)) (by omega)
    (shapeCast S1x4096 (View.ld x1 (Rect.unit (s := S4x1x4096) ![n / 32, 0, 0] S1x1x4096.size (row_inb h)))
      shapeCasts_S1x1x4096_S1x4096)
    (View.ld x0 (place n h))

/-- The stores of the first `n` chunks, newest first. -/
def pieces (x0 : Vec F S4x64x4096 .f32) (x1 : Vec F S4x1x4096 .i32) (x2 x3 x4 x5 : Vec F S64x128 .f32)
    (x6 x7 : Vec F S64x1 .f32) : (n : ℕ) → n ≤ 128 → List (View.Piece (Elt F) S4x64x4096 .f32)
  | 0, _ => []
  | n + 1, h => ⟨place n h, stored x0 x1 x2 x3 x4 x5 x6 x7 n h⟩ :: pieces x0 x1 x2 x3 x4 x5 x6 x7 n (Nat.le_of_lt h)

end Cert.KernelIdeal.Chunk

end
-- ==== Proof.Stored.lean ====
/- The body's 128 stores are the 128 chunks: the generated list of stores, whose values are cut into the printed
   function's parts wherever those happen to end, is `Chunk.pieces` at 128, by unfolding. -/
module

public import proofs.«01_k».proof.Proof.Chunk
public import proofs.«01_k».proof.Proof.Gen.KernelIdeal.Frame

@[expose] public section

set_option maxRecDepth 1000000
set_option maxHeartbeats 0

noncomputable section

namespace Cert.KernelIdeal.Chunk

open Idealize.ShloMosaic Idealize.SL.Sem Cert.KernelIdeal

variable {F : FTy → Type} [FloatOps F]

/-- What the body leaves in the output window is what the 128 chunks store. -/
theorem out_eq_pieces (x0 : Vec F S4x64x4096 .f32) (x1 : Vec F S4x1x4096 .i32) (x2 x3 x4 x5 : Vec F S64x128 .f32)
    (x6 x7 : Vec F S64x1 .f32) :
    Gen.out0_8 x0 x1 x2 x3 x4 x5 x6 x7 = View.canon (pieces x0 x1 x2 x3 x4 x5 x6 x7 128 (Nat.le_refl 128)) :=
  rfl

end Cert.KernelIdeal.Chunk

end
-- ==== Proof.ChunkValue.lean ====
/- One chunk read at an element, over the extended reals: lane by lane it is the normalisation of the row
   `x + entry`, the entry being the one the lane's tag names. -/
module

public import proofs.«01_k».proof.Proof.Chunk
public import proofs.«01_k».proof.Proof.LayerNorm
public import Idealize.ShloMosaic.Lib.Pointwise
public import Idealize.ShloMosaic.Lib.Pipeline.ValueKit

@[expose] public section

set_option maxRecDepth 16384

noncomputable section

namespace Cert.KernelIdeal.Chunk

open Idealize.ShloMosaic Idealize.SL.Sem Cert.KernelIdeal Cert.KernelIdeal.Gen

/-- The mean of each lane is the mean of its column. -/
theorem mean_apply (v : FVec Ideal S64x128 .f32) (l : Fin 128) :
    mean v (ix2 0 l) = LayerNorm.mean fun k => v (ix2 k l) := by
  pointwise [mean]
  rfl

theorem centred_apply (v : FVec Ideal S64x128 .f32) (f : Fin 64) (l : Fin 128) :
    centred v (ix2 f l) = LayerNorm.dev (fun k => v (ix2 k l)) f := by
  pointwise [centred]
  rw [mean_apply]
  rfl

theorem normalise_apply (g b : FVec Ideal S64x1 .f32) (v : FVec Ideal S64x128 .f32) (f : Fin 64) (l : Fin 128) :
    normalise g b v (ix2 f l) = LayerNorm.norm (fun k => v (ix2 k l)) (g (ix2 f 0)) (b (ix2 f 0)) f := by
  pointwise [normalise]
  rw [mean_apply]
  pointwise
  simp only [centred_apply]
  rfl

/-- A lane's word, from the row. -/
theorem low_apply (o : ℕ) (h : o + 128 ≤ 4096) (row : IVec S1x4096 32) (f : Fin 64) (l : Fin 128) :
    low o h row (ix2 f l) = IntOp.andi (row (ix2 0 ⟨o + l.val, by omega⟩)) 127#32 := by
  pointwise [low, lanes]

theorem isZero_apply (o : ℕ) (h : o + 128 ≤ 4096) (row : IVec S1x4096 32) (f : Fin 64) (l : Fin 128) :
    isZero o h row (ix2 f l) = IntOp.cmpi .eq (row (ix2 0 ⟨o + l.val, by omega⟩)) 0#32 := by
  pointwise [isZero, lanes]

/-! ## The entry a tag names -/

/-- The row read for the tag `n`: the tag's low seven bits, which are never negative. -/
theorem word_row (n : Fin 512) :
    (Scalar.select (IntOp.cmpi .slt (IntOp.andi (BitVec.ofNat 32 n.val) 127#32) 0#32)
      (IntOp.addi (IntOp.andi (BitVec.ofNat 32 n.val) 127#32) 128#32)
      (IntOp.andi (BitVec.ofNat 32 n.val) 127#32)).toNat % 128 = n.val % 128 := by
  revert n; decide +kernel

/-- Bit 7 of the tag is clear when the tag lies in an even run of 128. -/
theorem word_bit7 (n : Fin 512) :
    IntOp.cmpi .eq (IntOp.shrsi .vector (IntOp.andi (BitVec.ofNat 32 n.val) 128#32) 3#32) 0#32
      = BitVec.ofBool (decide (n.val / 128 % 2 = 0)) := by
  revert n; decide +kernel

/-- The bits from 8 up of the tag are clear when the tag is below 256. -/
theorem word_bit8 (n : Fin 512) :
    IntOp.cmpi .eq (IntOp.shrsi .vector (BitVec.ofNat 32 n.val) 8#32) 0#32
      = BitVec.ofBool (decide (n.val < 256)) := by
  revert n; decide +kernel

/-- A selection by a decided bit. -/
theorem select_ofBool {α : Type} (p : Prop) [Decidable p] (a b : α) :
    Scalar.select (BitVec.ofBool (decide p)) a b = if p then a else b := by
  by_cases h : p <;> simp [h, Scalar.select]

/-- The four tables read as one of 512 rows: row `n`, feature `f`. -/
def tableAt (t0 t1 t2 t3 : FVec Ideal S64x128 .f32) (f : Fin 64) (n : ℕ) : EReal :=
  (if n / 128 % 2 = 0 then (if n < 256 then t0 else t2) else (if n < 256 then t1 else t3))
    (ix2 f ⟨n % 128, Nat.mod_lt _ (by decide)⟩)

theorem lookup_apply (tab : FVec Ideal S64x128 .f32) (o : ℕ) (h : o + 128 ≤ 4096) (row : IVec S1x4096 32)
    (f : Fin 64) (l : Fin 128) (hn : (row (ix2 0 ⟨o + l.val, by omega⟩)).toNat < 512) :
    lookup tab (low o h row) (ix2 f l)
      = tab (ix2 f ⟨(row (ix2 0 ⟨o + l.val, by omega⟩)).toNat % 128, Nat.mod_lt _ (by decide)⟩) := by
  pointwise [lookup]
  have hw := word_row ⟨_, hn⟩
  rw [BitVec.ofNat_toNat, BitVec.setWidth_eq, ← low_apply o h row f l] at hw
  exact congrArg (fun k => tab (ix2 f k)) (Fin.ext hw)

theorem entry_apply (t0 t1 t2 t3 : FVec Ideal S64x128 .f32) (o : ℕ) (h : o + 128 ≤ 4096) (row : IVec S1x4096 32)
    (f : Fin 64) (l : Fin 128) (hn : (row (ix2 0 ⟨o + l.val, by omega⟩)).toNat < 512) :
    entry t0 t1 t2 t3 o h row (ix2 f l)
      = tableAt t0 t1 t2 t3 f (row (ix2 0 ⟨o + l.val, by omega⟩)).toNat := by
  have h7 := word_bit7 ⟨_, hn⟩
  have h8 := word_bit8 ⟨_, hn⟩
  simp only [BitVec.ofNat_toNat, BitVec.setWidth_eq] at h7 h8
  pointwise [entry]
  simp only [isZero_apply]
  pointwise
  rw [h7, h8, lookup_apply _ _ _ _ _ _ hn, lookup_apply _ _ _ _ _ _ hn, lookup_apply _ _ _ _ _ _ hn,
    lookup_apply _ _ _ _ _ _ hn]
  simp only [select_ofBool, tableAt]
  split_ifs <;> rfl

/-! ## A chunk's element -/

/-- The kernel's result at position `t`, feature `f` and lane `b` of a block: the normalised row of `x` and the
    entry the lane's tag names. -/
def blockAt (x0 : Vec Ideal S4x64x4096 .f32) (x1 : Vec Ideal S4x1x4096 .i32) (x2 x3 x4 x5 : Vec Ideal S64x128 .f32)
    (x6 x7 : Vec Ideal S64x1 .f32) (t : Fin 4) (f : Fin 64) (b : Fin 4096) : EReal :=
  LayerNorm.norm (fun k => x0 (ix3 t k b) + tableAt x2 x3 x4 x5 k (x1 (ix3 t 0 b)).toNat)
    (x6 (ix2 f 0)) (x7 (ix2 f 0)) f

/-- A table's window read whole is the table. -/
theorem table_whole (x : Vec Ideal S64x128 .f32) :
    shapeCast S64x128 (View.ld x (Rect.unit (s := S64x128) ![0, 0] S64x128.size table_inb)) shapeCasts_S64x128_S64x128
      = x := by
  funext j
  idx_vars j
  pointwise

/-- Position `t`'s row of tags. -/
theorem row_apply (x1 : Vec Ideal S4x1x4096 .i32) (n : ℕ) (h : n < 128) (b : Fin 4096) :
    shapeCast S1x4096 (View.ld x1 (Rect.unit (s := S4x1x4096) ![n / 32, 0, 0] S1x1x4096.size (row_inb h)))
      shapeCasts_S1x1x4096_S1x4096 (ix2 0 b) = x1 (ix3 ⟨n / 32, by omega⟩ 0 b) := by
  have A : ∀ v : IVec S1x1x4096 32, shapeCast S1x4096 v shapeCasts_S1x1x4096_S1x4096 (ix2 0 b) = v (ix3 0 0 b) := by
    intro v
    pointwise
  have B : View.ld x1 (Rect.unit (s := S4x1x4096) ![n / 32, 0, 0] S1x1x4096.size (row_inb h)) (ix3 0 0 b) = x1 (ix3 ⟨n / 32, by omega⟩ 0 b) := by
    pointwise
  exact (A _).trans B

theorem stored_apply (x0 : Vec Ideal S4x64x4096 .f32) (x1 : Vec Ideal S4x1x4096 .i32)
    (x2 x3 x4 x5 : Vec Ideal S64x128 .f32) (x6 x7 : Vec Ideal S64x1 .f32) (n : ℕ) (h : n < 128) (f : Fin 64)
    (l : Fin 128) (hn : ∀ i, (x1 i).toNat < 512) :
    stored x0 x1 x2 x3 x4 x5 x6 x7 n h (ix3 0 f l)
      = blockAt x0 x1 x2 x3 x4 x5 x6 x7 ⟨n / 32, by omega⟩ f ⟨128 * (n % 32) + l.val, by omega⟩ := by
  unfold stored
  rw [table_whole, table_whole, table_whole, table_whole]
  pointwise [chunk]
  rw [normalise_apply]
  pointwise
  unfold blockAt
  refine congrArg (fun v => LayerNorm.norm v (x6 (ix2 f 0)) (x7 (ix2 f 0)) f) (funext fun k => ?_)
  rw [entry_apply]
  · rw [row_apply _ _ h]
  · rw [row_apply _ _ h]
    exact hn _

/-! ## A block's element -/

/-- The chunk that holds an element is the one of its position and lane, so the block, once all its chunks are
    stored, has at every element what `blockAt` says. -/
theorem pieces_apply (x0 : Vec Ideal S4x64x4096 .f32) (x1 : Vec Ideal S4x1x4096 .i32)
    (x2 x3 x4 x5 : Vec Ideal S64x128 .f32) (x6 x7 : Vec Ideal S64x1 .f32) (hn : ∀ i, (x1 i).toNat < 512)
    (t : Fin 4) (f : Fin 64) (b : Fin 4096) : ∀ (n : ℕ) (h : n ≤ 128),
      View.AllAt (pieces x0 x1 x2 x3 x4 x5 x6 x7 n h) (ix3 t f b) (blockAt x0 x1 x2 x3 x4 x5 x6 x7 t f b)
  | 0, _ => View.allAt_nil _ _
  | n + 1, h => by
    refine View.allAt_cons_unit _ _ _ _ _ (fun x hx => ?_)
      (pieces_apply x0 x1 x2 x3 x4 x5 x6 x7 hn t f b n (Nat.le_of_lt h))
    have h0 : t.val = n / 32 + (x 0).val := hx 0
    have h1 : f.val = 0 + (x 1).val := hx 1
    have h2 : b.val = 128 * (n % 32) + (x 2).val := hx 2
    have b0 : (x 0).val < 1 := (x 0).isLt
    have b1 : (x 1).val < 64 := (x 1).isLt
    have b2 : (x 2).val < 128 := (x 2).isLt
    have hx' : x = ix3 (0 : Fin 1) f ⟨(x 2).val, b2⟩ := by
      funext a
      fin_cases a
      · exact Fin.ext (by show (x 0).val = 0; omega)
      · exact Fin.ext (by show (x 1).val = f.val; omega)
      · rfl
    rw [hx']
    refine (stored_apply x0 x1 x2 x3 x4 x5 x6 x7 n h f _ hn).trans ?_
    have e0 : (⟨n / 32, by omega⟩ : Fin 4) = t := Fin.ext (by show n / 32 = t.val; omega)
    have e2 : (⟨128 * (n % 32) + (x 2).val, by omega⟩ : Fin 4096) = b := Fin.ext h2.symm
    rw [e0, e2]

/-- Chunk `n` is among the first `N` for `n < N`. -/
theorem mem_pieces (x0 : Vec Ideal S4x64x4096 .f32) (x1 : Vec Ideal S4x1x4096 .i32)
    (x2 x3 x4 x5 : Vec Ideal S64x128 .f32) (x6 x7 : Vec Ideal S64x1 .f32) (n : ℕ) (hn : n < 128) :
    ∀ (N : ℕ) (h : N ≤ 128), n < N →
      (⟨place n hn, stored x0 x1 x2 x3 x4 x5 x6 x7 n hn⟩ : View.Piece (Elt Ideal) S4x64x4096 .f32)
        ∈ pieces x0 x1 x2 x3 x4 x5 x6 x7 N h
  | 0, _, h0 => absurd h0 (Nat.not_lt_zero _)
  | N + 1, h, h1 => by
    rcases Nat.lt_succ_iff_lt_or_eq.mp h1 with h2 | rfl
    · exact List.mem_cons_of_mem _ (mem_pieces x0 x1 x2 x3 x4 x5 x6 x7 n hn N (Nat.le_of_lt h) h2)
    · exact List.mem_cons_self

theorem canon_apply (x0 : Vec Ideal S4x64x4096 .f32) (x1 : Vec Ideal S4x1x4096 .i32)
    (x2 x3 x4 x5 : Vec Ideal S64x128 .f32) (x6 x7 : Vec Ideal S64x1 .f32) (hn : ∀ i, (x1 i).toNat < 512)
    (t : Fin 4) (f : Fin 64) (b : Fin 4096) :
    View.canon (pieces x0 x1 x2 x3 x4 x5 x6 x7 128 (Nat.le_refl 128)) (ix3 t f b)
      = blockAt x0 x1 x2 x3 x4 x5 x6 x7 t f b := by
  have hk : 32 * t.val + b.val / 128 < 128 := by omega
  refine View.canon_eq_of_allAt _ _ _ ?_ (pieces_apply x0 x1 x2 x3 x4 x5 x6 x7 hn t f b 128 (Nat.le_refl 128))
  refine ⟨_, mem_pieces x0 x1 x2 x3 x4 x5 x6 x7 _ hk 128 (Nat.le_refl 128) hk,
    (Rect.mem_set_unit (inb := chunk_inb hk)).mpr fun a => ?_⟩
  fin_cases a
  · show (32 * t.val + b.val / 128) / 32 ≤ t.val ∧ t.val < (32 * t.val + b.val / 128) / 32 + 1
    omega
  · show 0 ≤ f.val ∧ f.val < 0 + 64
    omega
  · show 128 * ((32 * t.val + b.val / 128) % 32) ≤ b.val ∧ b.val < 128 * ((32 * t.val + b.val / 128) % 32) + 128
    omega

end Cert.KernelIdeal.Chunk

end
-- ==== Proof.Windows.lean ====
/- What the kernel's windows hold at a grid point, in terms of the arguments. -/
module

public import proofs.«01_k».proof.Proof.Gen.KernelIdeal.Frame
public import proofs.«01_k».proof.Proof.ChunkValue
public import proofs.«01_k».proof.Proof.Expected
public import Idealize.ShloMosaic.Lib.Claim
public import Idealize.ShloMosaic.Lib.Tactic.CleanTypes

@[expose] public section

set_option maxRecDepth 16384

noncomputable section

namespace Cert.KernelIdeal.Windows

open Idealize.ShloMosaic Idealize.ShloMosaic.TcCoe Idealize.SL.Sem Cert.KernelIdeal Cert.KernelIdeal.Gen

variable (m : (ℓ : Loc nD τ sig) → Buf (Elt Ideal) ℓ) (c : Dev nD)

/-- The arguments as arrays. -/
abbrev x : FVec Ideal S4096x200x64 .f32 := m ((c.tc : Thread nD τ).loc main_arg0)
abbrev tags : IVec S4096x200 32 := m ((c.tc : Thread nD τ).loc main_arg1)
abbrev emb : FVec Ideal S201x64 .f32 := m ((c.tc : Thread nD τ).loc main_arg2)
abbrev scale : FVec Ideal S64 .f32 := m ((c.tc : Thread nD τ).loc main_arg3)
abbrev shift : FVec Ideal S64 .f32 := m ((c.tc : Thread nD τ).loc main_arg4)

/-! ## The arrays the region reads -/

/-- The embedding table with its rows padded to 512 and transposed. -/
def padded : FVec Ideal S64x512 .f32 :=
  transpose S64x512 [1, 0]
    (pad S512x64 ![0, 0] ![311, 0] ![0, 0] (emb m c) (sitofp .f32 (constantI S_ 32 0#32)) pads_S201x64_S512x64_03110_000 h_S_)
    transposes_S512x64_S64x512_1_0

/-- The first window's array is `x` with its axes turned. -/
theorem x_array :
    V m c main_v0 = (transpose S200x64x4096 [1, 2, 0] (x m c) transposes_S4096x200x64_S200x64x4096_1_2_0 : FVec Ideal S200x64x4096 .f32) := by
  simp only [V, V0, hostOps0, hostOps0_1, hostOps0_2, List.flatten_cons, List.flatten_nil, List.append_nil,
    List.cons_append, List.nil_append, StableHlo.TRef.binary, StableHlo.TRef.unary, StableHlo.TRef.toBuf,
    StableHlo.TRef.ofBuf, cast_eq]
  after_results_simp

/-- The second window's array is the tags with their axes turned. -/
theorem tags_array :
    V m c main_v2 = (shapeCast S200x1x4096 (transpose S200x4096 [1, 0] (tags m c) transposes_S4096x200_S200x4096_1_0) shapeCasts_S200x4096_S200x1x4096 : IVec S200x1x4096 32) := by
  simp only [V, V0, hostOps0, hostOps0_1, hostOps0_2, List.flatten_cons, List.flatten_nil, List.append_nil,
    List.cons_append, List.nil_append, StableHlo.TRef.binary, StableHlo.TRef.unary, StableHlo.TRef.toBuf,
    StableHlo.TRef.ofBuf, cast_eq]
  after_results_simp
  rfl

/-- The first table. -/
theorem table0_array :
    V m c main_v7 = (extractStridedSlice S64x128 ![0, 0] (padded m c) slices_S64x512_S64x128_0_0 : FVec Ideal S64x128 .f32) := by
  simp only [V, V0, hostOps0, hostOps0_1, hostOps0_2, List.flatten_cons, List.flatten_nil, List.append_nil,
    List.cons_append, List.nil_append, StableHlo.TRef.binary, StableHlo.TRef.unary, StableHlo.TRef.toBuf,
    StableHlo.TRef.ofBuf, cast_eq]
  after_results_simp
  rfl

/-- The second table. -/
theorem table1_array :
    V m c main_v8 = (extractStridedSlice S64x128 ![0, 128] (padded m c) slices_S64x512_S64x128_0_128 : FVec Ideal S64x128 .f32) := by
  simp only [V, V0, hostOps0, hostOps0_1, hostOps0_2, List.flatten_cons, List.flatten_nil, List.append_nil,
    List.cons_append, List.nil_append, StableHlo.TRef.binary, StableHlo.TRef.unary, StableHlo.TRef.toBuf,
    StableHlo.TRef.ofBuf, cast_eq]
  after_results_simp
  rfl

/-- The scales, as a column. -/
theorem scale_array :
    V m c main_v11 = (shapeCast S64x1 (scale m c) shapeCasts_S64_S64x1 : FVec Ideal S64x1 .f32) := by
  simp only [V, V0, hostOps0, hostOps0_1, hostOps0_2, List.flatten_cons, List.flatten_nil, List.append_nil,
    List.cons_append, List.nil_append, StableHlo.TRef.binary, StableHlo.TRef.unary, StableHlo.TRef.toBuf,
    StableHlo.TRef.ofBuf, cast_eq]
  after_results_simp
  rfl

/-- The shifts, as a column. -/
theorem shift_array :
    V m c main_v12 = (shapeCast S64x1 (shift m c) shapeCasts_S64_S64x1 : FVec Ideal S64x1 .f32) := by
  simp only [V, V0, hostOps0, hostOps0_1, hostOps0_2, List.flatten_cons, List.flatten_nil, List.append_nil,
    List.cons_append, List.nil_append, StableHlo.TRef.binary, StableHlo.TRef.unary, StableHlo.TRef.toBuf,
    StableHlo.TRef.ofBuf, cast_eq]
  after_results_simp
  rfl

/-! ## Their entries -/

theorem x_entry (t : Fin 200) (f : Fin 64) (b : Fin 4096) :
    (V m c main_v0 : FVec Ideal S200x64x4096 .f32) (ix3 t f b) = x m c (ix3 b t f) := by
  rw [x_array]
  pointwise

theorem tags_entry (t : Fin 200) (b : Fin 4096) :
    (V m c main_v2 : IVec S200x1x4096 32) (ix3 t 0 b) = tags m c (ix2 b t) := by
  rw [tags_array]
  pointwise

theorem scale_entry (f : Fin 64) : (V m c main_v11 : FVec Ideal S64x1 .f32) (ix2 f 0) = scale m c (ix1 f) := by
  rw [scale_array]
  pointwise

theorem shift_entry (f : Fin 64) : (V m c main_v12 : FVec Ideal S64x1 .f32) (ix2 f 0) = shift m c (ix1 f) := by
  rw [shift_array]
  pointwise

/-- A row of the embedding table, read in the padded one. -/
theorem padded_entry (f : Fin 64) (n : Fin 201) : padded m c (ix2 f ⟨n.val, by omega⟩) = emb m c (ix2 n f) := by
  unfold padded
  pointwise

theorem table0_entry (f : Fin 64) (j : Fin 128) :
    (V m c main_v7 : FVec Ideal S64x128 .f32) (ix2 f j) = emb m c (ix2 ⟨j.val, by omega⟩ f) := by
  rw [table0_array, ← padded_entry]
  pointwise

theorem table1_entry (f : Fin 64) (j : Fin 128) (h : j.val < 73) :
    (V m c main_v8 : FVec Ideal S64x128 .f32) (ix2 f j) = emb m c (ix2 ⟨128 + j.val, by omega⟩ f) := by
  rw [table1_array, ← padded_entry]
  pointwise

/-! ## The blocks -/

theorem index0 : ∀ t : Fin cfg0.N, (cfg0.win 0).index t = ![t.val, 0, 0] := by decide +kernel
theorem index1 : ∀ t : Fin cfg0.N, (cfg0.win 1).index t = ![t.val, 0, 0] := by decide +kernel
theorem index2 : ∀ t : Fin cfg0.N, (cfg0.win 2).index t = ![0, 0] := by decide +kernel
theorem index3 : ∀ t : Fin cfg0.N, (cfg0.win 3).index t = ![0, 0] := by decide +kernel
theorem index4 : ∀ t : Fin cfg0.N, (cfg0.win 4).index t = ![0, 0] := by decide +kernel
theorem index5 : ∀ t : Fin cfg0.N, (cfg0.win 5).index t = ![0, 0] := by decide +kernel
theorem index6 : ∀ t : Fin cfg0.N, (cfg0.win 6).index t = ![0, 0] := by decide +kernel
theorem index7 : ∀ t : Fin cfg0.N, (cfg0.win 7).index t = ![0, 0] := by decide +kernel
theorem index8 : ∀ t : Fin cfg0.N, (cfg0.win 8).index t = ![t.val, 0, 0] := by decide +kernel

theorem point_lt (t : Fin cfg0.N) : t.val < 50 := lt_of_lt_of_le t.isLt (by decide +kernel)

/-- The position that row `p` of grid point `t`'s block is. -/
def position (t : Fin cfg0.N) (p : Fin 4) : Fin 200 := ⟨t.val * 4 + p.val, by have := point_lt t; omega⟩

theorem emb0 (t : Fin cfg0.N) (p : Fin 4) (f : Fin 64) (b : Fin 4096) :
    ((cfg0.win 0).blk t).view.emb (ix3 p f b) = (ix3 (position t p) f b : S200x64x4096.Idx) := by
  funext a
  apply Fin.ext
  fin_cases a <;> blk_simp [index0 t] <;> simp [position]

theorem emb1 (t : Fin cfg0.N) (p : Fin 4) (b : Fin 4096) :
    ((cfg0.win 1).blk t).view.emb (ix3 p 0 b) = (ix3 (position t p) 0 b : S200x1x4096.Idx) := by
  funext a
  apply Fin.ext
  fin_cases a <;> blk_simp [index1 t] <;> simp [position]

theorem emb8 (t : Fin cfg0.N) (p : Fin 4) (f : Fin 64) (b : Fin 4096) :
    ((cfg0.win 8).blk t).view.emb (ix3 p f b) = (ix3 (position t p) f b : S200x64x4096.Idx) := by
  funext a
  apply Fin.ext
  fin_cases a <;> blk_simp [index8 t] <;> simp [position]

theorem emb2 (t : Fin cfg0.N) (f : Fin 64) (j : Fin 128) :
    ((cfg0.win 2).blk t).view.emb (ix2 f j) = (ix2 f j : S64x128.Idx) := by
  funext a
  apply Fin.ext
  fin_cases a <;> blk_simp [index2 t] <;> simp [position]

theorem emb3 (t : Fin cfg0.N) (f : Fin 64) (j : Fin 128) :
    ((cfg0.win 3).blk t).view.emb (ix2 f j) = (ix2 f j : S64x128.Idx) := by
  funext a
  apply Fin.ext
  fin_cases a <;> blk_simp [index3 t] <;> simp [position]

theorem emb6 (t : Fin cfg0.N) (f : Fin 64) :
    ((cfg0.win 6).blk t).view.emb (ix2 f 0) = (ix2 f 0 : S64x1.Idx) := by
  funext a
  apply Fin.ext
  fin_cases a <;> blk_simp [index6 t] <;> simp [position]

theorem emb7 (t : Fin cfg0.N) (f : Fin 64) :
    ((cfg0.win 7).blk t).view.emb (ix2 f 0) = (ix2 f 0 : S64x1.Idx) := by
  funext a
  apply Fin.ext
  fin_cases a <;> blk_simp [index7 t] <;> simp [position]

/-- The block of `x`: four positions, every feature and batch. -/
theorem x_block (t : Fin cfg0.N) (p : Fin 4) (f : Fin 64) (b : Fin 4096) :
    (iblk m c 0 t : FVec Ideal S4x64x4096 .f32) (ix3 p f b) = x m c (ix3 b (position t p) f) :=
  (congrArg (V m c main_v0) (emb0 t p f b)).trans (x_entry m c _ _ _)

/-- The block of tags: the same four positions. -/
theorem tags_block (t : Fin cfg0.N) (p : Fin 4) (b : Fin 4096) :
    (iblk m c 1 t : IVec S4x1x4096 32) (ix3 p 0 b) = tags m c (ix2 b (position t p)) :=
  (congrArg (V m c main_v2) (emb1 t p b)).trans (tags_entry m c _ _)

/-- The first table's block: the first 128 rows of the embedding. -/
theorem table0_block (t : Fin cfg0.N) (f : Fin 64) (j : Fin 128) :
    (iblk m c 2 t : FVec Ideal S64x128 .f32) (ix2 f j) = emb m c (ix2 ⟨j.val, by omega⟩ f) :=
  (congrArg (V m c main_v7) (emb2 t f j)).trans (table0_entry m c _ _)

/-- The second table's block: the other 73 rows, then padding. -/
theorem table1_block (t : Fin cfg0.N) (f : Fin 64) (j : Fin 128) (h : j.val < 73) :
    (iblk m c 3 t : FVec Ideal S64x128 .f32) (ix2 f j) = emb m c (ix2 ⟨128 + j.val, by omega⟩ f) :=
  (congrArg (V m c main_v8) (emb3 t f j)).trans (table1_entry m c _ _ h)

theorem scale_block (t : Fin cfg0.N) (f : Fin 64) :
    (iblk m c 6 t : FVec Ideal S64x1 .f32) (ix2 f 0) = scale m c (ix1 f) :=
  (congrArg (V m c main_v11) (emb6 t f)).trans (scale_entry m c _)

theorem shift_block (t : Fin cfg0.N) (f : Fin 64) :
    (iblk m c 7 t : FVec Ideal S64x1 .f32) (ix2 f 0) = shift m c (ix1 f) :=
  (congrArg (V m c main_v12) (emb7 t f)).trans (shift_entry m c _)

/-- A tag below 201 picks its row of the embedding out of the four tables. -/
theorem tables_at (t : Fin cfg0.N) (f : Fin 64) (n : Fin 201) :
    Chunk.tableAt (iblk m c 2 t) (iblk m c 3 t) (iblk m c 4 t) (iblk m c 5 t) f n.val = emb m c (ix2 n f) := by
  unfold Chunk.tableAt
  by_cases h : n.val < 128
  · rw [if_pos (by omega), if_pos (by omega)]
    refine (table0_block m c t f _).trans (congrArg (fun k => emb m c (ix2 k f)) (Fin.ext ?_))
    show n.val % 128 = n.val
    omega
  · rw [if_neg (by omega), if_pos (by omega)]
    refine (table1_block m c t f _ (show n.val % 128 < 73 by omega)).trans
      (congrArg (fun k => emb m c (ix2 k f)) (Fin.ext ?_))
    show 128 + n.val % 128 = n.val
    omega

end Cert.KernelIdeal.Windows

end
-- ==== Proof.Result.lean ====
/- The idealised kernel's result: every element of the array the program returns is the expected value. -/
module

public import proofs.«01_k».proof.Proof.Stored
public import proofs.«01_k».proof.Proof.Windows

@[expose] public section

set_option maxRecDepth 16384

noncomputable section

namespace Cert.KernelIdeal.Result

open Idealize.ShloMosaic Idealize.ShloMosaic.TcCoe Idealize.SL.Sem Cert.KernelIdeal Cert.KernelIdeal.Gen
open Cert.KernelIdeal.Windows

variable (m : (ℓ : Loc nD τ sig) → Buf (Elt Ideal) ℓ) (ρ : Dev nD → PrngReg) (c : Dev nD)

/-- The expected value at an element. -/
abbrev expected (b : Fin 4096) (t : Fin 200) (f : Fin 64) : EReal :=
  Expected.value (x m c) (tags m c) (emb m c) (scale m c) (shift m c) b t f

/-- Every tag names a row of the table. -/
def InTable : Prop := ∀ (b : Fin 4096) (t : Fin 200), (tags m c (ix2 b t)).toNat < 201

/-- What the body leaves in the output window. -/
theorem block_apply (h : InTable m c) (t : Fin cfg0.N) (p : Fin 4) (f : Fin 64) (b : Fin 4096) :
    (out0_8 (iblk m c 0 t) (iblk m c 1 t) (iblk m c 2 t) (iblk m c 3 t) (iblk m c 4 t) (iblk m c 5 t) (iblk m c 6 t)
      (iblk m c 7 t) : FVec Ideal S4x64x4096 .f32) (ix3 p f b) = expected m c b (position t p) f := by
  rw [Chunk.out_eq_pieces, Chunk.canon_apply]
  · unfold Chunk.blockAt
    rw [scale_block, shift_block, tags_block]
    refine congrArg (fun v => LayerNorm.norm v _ _ f) (funext fun k => ?_)
    rw [x_block, ← Expected.rowOf_val (h b (position t p)), tables_at]
  · intro i
    idx_vars i
    rw [Fin.fin_one_eq_zero i1, tags_block]
    exact Nat.lt_trans (h _ _) (by decide)

/-- The array the kernel writes, with the batch last. -/
def written : FVec Ideal S200x64x4096 .f32 := fun i => expected m c (i 2) (i 0) (i 1)

theorem array_eq (h : InTable m c) : (dats m 0 c).arrAt 8 cfg0.N = written m c := by
  refine (dats m 0 c).arrAt_eq_of_covers 8 (written m c) (by decide +kernel) fun t _ y => ?_
  blk_simp
  rw [after0_8]
  change S4x64x4096.Idx at y
  idx_vars y
  exact (block_apply m c h t y0 y1 y2).trans (congrArg (written m c) (emb8 t y0 y1 y2)).symm

/-- The array the program returns. -/
def returned : FVec Ideal S4096x200x64 .f32 := fun i => expected m c (i 0) (i 1) (i 2)

theorem tail_eq (h : InTable m c) :
    Pipeline.afterTail₀ cfgs (dats m) 0 (V0 m) [hostOps1] c main_v14 = returned m c := by
  unfold Pipeline.afterTail₀
  simp only [hostOps1, List.flatten_cons, List.flatten_nil, List.append_nil]
  after_results_simp
  have hw : Pipeline.withArrays (cfgs 0).spec c (V0 m c) (fun w => (dats m 0 c).arrAt w (cfgs 0).N) (Proc.tc.devRef main_v13)
      = written m c :=
    (Pipeline.withArrays_arr (cfgs 0).spec (by decide) c (V0 m c) (fun w => (dats m 0 c).arrAt w (cfgs 0).N) 8).trans
      (array_eq m c h)
  rw [hw]
  funext i
  idx_vars i
  pointwise
  rfl

/-- The run of the idealised kernel: it returns the expected array and leaves its arguments as they were. -/
theorem run (h : ∀ c, InTable m c) :
    θ_run defs (onTc (τ := τ) (main (F := Ideal))) ⟨m, fun _ => 0, ρ⟩ (fun r => ∀ c : Dev nD,
      r.2.mem ((c.tc : Thread nD τ).loc main_v14) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun _ hr c => ⟨((hr.1 c).2 main_v14 (Pipeline.mem_restRefs_of main_v14 (by decide) (by decide))).trans
      (tail_eq m c (h c)), hr.2 c⟩)
    (θ_run_and (run_main m ρ) (unchanged m ρ))

end Cert.KernelIdeal.Result

end
-- ==== Proof.Agree.lean ====
/- The equation: under the range of the tags, the reference's result is the array the idealised kernel returns. -/
module

public import proofs.«01_k».proof.Defs
public import proofs.«01_k».proof.Proof.Gen.Pre_tags_in_table
public import proofs.«01_k».proof.Proof.Expected
public import proofs.«01_k».proof.Proof.Reference
public import proofs.«01_k».proof.Proof.Result

@[expose] public section

set_option maxRecDepth 16384

noncomputable section

namespace Cert.Agree

open Idealize.ShloMosaic Idealize.ShloMosaic.TcCoe Idealize.SL.Sem

/-- A word that is at least 0 and below 201 as a signed number is below 201 as an unsigned one. -/
theorem toNat_lt (w : BitVec 32) (h0 : (0#32).sle w = true) (h1 : w.slt 201#32 = true) : w.toNat < 201 := by
  simp only [BitVec.sle, BitVec.slt, decide_eq_true_eq] at h0 h1
  have e0 : (0#32).toInt = 0 := by decide
  have e1 : (201#32).toInt = 201 := by decide
  rw [e0] at h0
  rw [e1] at h1
  rw [BitVec.toInt_eq_toNat_cond] at h0 h1
  split at h0 <;> omega

/-- What the range of the tags says of one tag. -/
theorem tag_lt [Cert.Pre_tags_in_table.Facts] (x : FVec Ideal ⟨3, ![4096, 200, 64]⟩ .f32) (tags : IVec ⟨2, ![4096, 200]⟩ 32)
    (emb : FVec Ideal ⟨2, ![201, 64]⟩ .f32) (g s : FVec Ideal ⟨1, ![64]⟩ .f32)
    (h : Cert.Pre_tags_in_table.fn x tags emb g s = fun _ => 1#1) (b : Fin 4096) (t : Fin 200) :
    (tags (ix2 b t)).toNat < 201 := by
  have h' := congrFun h (ix2 b t)
  unfold Cert.Pre_tags_in_table.fn at h'
  pointwise at h'
  simp only [IntOp.andi, IntOp.cmpi] at h'
  cases h0 : (0#32).sle (tags (ix2 b t)) <;> cases h1 : (tags (ix2 b t)).slt 201#32 <;> simp [h0, h1] at h'
  exact toNat_lt _ h0 h1

/-- The reference's result at an element. -/
theorem reference_apply (m : (ℓ : Loc ReferenceIdeal.nD ReferenceIdeal.τ ReferenceIdeal.sig) → Buf (Elt Ideal) ℓ)
    (c : Dev ReferenceIdeal.nD) (x : FVec Ideal ⟨3, ![4096, 200, 64]⟩ .f32) (tags : IVec ⟨2, ![4096, 200]⟩ 32)
    (emb : FVec Ideal ⟨2, ![201, 64]⟩ .f32) (g s : FVec Ideal ⟨1, ![64]⟩ .f32)
    (h0 : m ((c.tc : Thread ReferenceIdeal.nD ReferenceIdeal.τ).loc ReferenceIdeal.main_arg0) = x)
    (h1 : m ((c.tc : Thread ReferenceIdeal.nD ReferenceIdeal.τ).loc ReferenceIdeal.main_arg1) = tags)
    (h2 : m ((c.tc : Thread ReferenceIdeal.nD ReferenceIdeal.τ).loc ReferenceIdeal.main_arg2) = emb)
    (h3 : m ((c.tc : Thread ReferenceIdeal.nD ReferenceIdeal.τ).loc ReferenceIdeal.main_arg3) = g)
    (h4 : m ((c.tc : Thread ReferenceIdeal.nD ReferenceIdeal.τ).loc ReferenceIdeal.main_arg4) = s)
    (hin : ∀ b t, (tags (ix2 b t)).toNat < 201) (b : Fin 4096) (t : Fin 200) (f : Fin 64) :
    (ReferenceIdeal.Value.res_out0 m c : FVec Ideal ⟨3, ![4096, 200, 64]⟩ .f32) (ix3 b t f)
      = Expected.value x tags emb g s b t f := by
  rw [ReferenceIdeal.Entry.result_eq, h0, h1, h2, h3, h4, ReferenceIdeal.Entry.normalised_apply]
  refine congrArg (fun v => LayerNorm.norm v (g (ix1 f)) (s (ix1 f)) f) (funext fun k => ?_)
  show x (ix3 b t k) + ReferenceIdeal.Entry.taken emb tags (ix3 b t k) = _
  rw [ReferenceIdeal.Entry.taken_apply emb tags b t k _ (Expected.ofNat_rowOf (hin b t))]

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tags_in_table
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments as they were, and every counter at zero. -/
theorem reference_frame : Cert.quiescent_ReferenceIdeal := fun m g _ =>
  (θ_run ReferenceIdeal.defs _ _).mono
    (fun r h => ⟨fun c => (h c).2, Idealize.ShloMosaic.sem_eq_zero_of_no_sems (by decide) r.2⟩) (ReferenceIdeal.Value.run (F := Ideal) m g)

/-- The idealised kernel and the reference return the same array. -/
theorem same_result : Cert.algebraic_KernelIdeal_ReferenceIdeal_pre_tags_in_table := by
  intro m g m' g' hpre hagree
  have hin : ∀ c, KernelIdeal.Result.InTable m c := fun c b t => Agree.tag_lt _ _ _ _ _ (hpre c) b t
  refine ⟨fun c => KernelIdeal.Result.returned m c, KernelIdeal.Result.run m g hin, ?_⟩
  refine (θ_run _ _ _).mono (fun _ h c => ⟨(h c).1.trans ?_, (h c).2⟩) (ReferenceIdeal.Value.run (F := Ideal) m' g')
  obtain ⟨h0, h1, h2, h3, h4⟩ := hagree c
  funext i
  change (⟨3, ![4096, 200, 64]⟩ : Shape).Idx at i
  idx_vars i
  exact Agree.reference_apply m' c _ _ _ _ _ h0 h1 h2 h3 h4 (hin c) _ _ _

theorem claim : Cert.Claim :=
  ⟨Cert.Kernel.Gen.facts, Cert.KernelIdeal.Gen.facts, Cert.ReferenceIdeal.Gen.facts, Cert.Pre_tags_in_table.Gen.facts,
    fun m g _ => Cert.Kernel.Gen.frame m g, fun m g _ => Cert.KernelIdeal.Gen.frame m g,
    fun m g _ => Cert.KernelIdeal.Gen.frame m g, reference_frame, fun m g _ => reference_frame m g trivial,
    trivial, same_result⟩

end Cert.Proof

end
